-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_atoms_are_iota [hPre_atoms_are_iota : Cert.Pre_atoms_are_iota.Facts] (m : (ℓ : Loc Cert.KernelIdeal.nD Cert.KernelIdeal.τ Cert.KernelIdeal.sig) → Buf (Elt Ideal) ℓ) : Prop :=
  ∀ c : Dev Cert.KernelIdeal.nD,
    (Cert.Pre_atoms_are_iota.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_atoms_are_iota [hPre_atoms_are_iota : Cert.Pre_atoms_are_iota.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_atoms_are_iota.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_atoms_are_iota [hKernelIdeal : Cert.KernelIdeal.Facts] [hPre_atoms_are_iota : Cert.Pre_atoms_are_iota.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_atoms_are_iota m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_atoms_are_iota [hReferenceIdeal : Cert.ReferenceIdeal.Facts] [hPre_atoms_are_iota : Cert.Pre_atoms_are_iota.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_atoms_are_iota m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_atoms_are_iota [hKernelIdeal : Cert.KernelIdeal.Facts] [hReferenceIdeal : Cert.ReferenceIdeal.Facts] [hPre_atoms_are_iota : Cert.Pre_atoms_are_iota.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_atoms_are_iota m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_atoms_are_iota : Cert.Pre_atoms_are_iota.Facts),
    quiescent_Kernel (hKernel := hKernel)
    ∧ quiescent_KernelIdeal (hKernelIdeal := hKernelIdeal)
    ∧ quiescent_KernelIdeal_pre_atoms_are_iota (hKernelIdeal := hKernelIdeal) (hPre_atoms_are_iota := hPre_atoms_are_iota)
    ∧ quiescent_ReferenceIdeal (hReferenceIdeal := hReferenceIdeal)
    ∧ quiescent_ReferenceIdeal_pre_atoms_are_iota (hReferenceIdeal := hReferenceIdeal) (hPre_atoms_are_iota := hPre_atoms_are_iota)
    ∧ preserves_Kernel_KernelIdeal
    ∧ algebraic_KernelIdeal_ReferenceIdeal_pre_atoms_are_iota (hKernelIdeal := hKernelIdeal) (hReferenceIdeal := hReferenceIdeal) (hPre_atoms_are_iota := hPre_atoms_are_iota)
-- ==== Pre_atoms_are_iota.lean ====
abbrev S8192x100x3 : Shape := ⟨3, ![8192, 100, 3]⟩
abbrev S100 : Shape := ⟨1, ![100]⟩
abbrev S_ : Shape := ⟨0, ![]⟩

class Facts : Prop where
  reducesTo_S100_S_d0 : S100.ReducesTo [0] S_
  h_S_ : 0 < S_.numel

variable [Facts]

def fn {F : FTy → Type} [FloatOps F] (main_arg0 : FVec F S8192x100x3 .f32) (main_arg1 : IVec S100 32) : IVec S_ 1 :=
  let main_v0 : IVec S100 32 := iotaInDim S100 32 0
  let main_v1 : IVec S100 1 := cmpi .eq main_arg1 main_v0
  let main_c : IVec S_ 1 := constantI S_ 1 1#1
  let main_v2 : IVec S_ 1 := (fun x v => Host.reduce IntOp.andi x v reducesTo_S100_S_d0 h_S_) main_v1 main_c
  main_v2
-- ==== Kernel.lean ====
abbrev S8192x100x3 : Shape := ⟨3, ![8192, 100, 3]⟩
abbrev S100 : Shape := ⟨1, ![100]⟩
abbrev S3x100x8192 : Shape := ⟨3, ![3, 100, 8192]⟩
abbrev S100x100x8192 : Shape := ⟨3, ![100, 100, 8192]⟩
abbrev S1x100x512 : Shape := ⟨3, ![1, 100, 512]⟩
abbrev S100x100x512 : Shape := ⟨3, ![100, 100, 512]⟩
abbrev S100x512 : Shape := ⟨2, ![100, 512]⟩
abbrev S100x1x512 : Shape := ⟨3, ![100, 1, 512]⟩
abbrev S8192x100x100 : Shape := ⟨3, ![8192, 100, 100]⟩

abbrev nBuf : Space → Nat
  | .hbm => 6
  | .vmem => 4
  | .smem => 0
  | _ => 0

abbrev bufTy : (tb : Table) → Fin (tcTables nBuf tb) → BufTy
  | .hbm, ⟨0, _⟩ => ⟨S8192x100x3, .f32⟩
  | .hbm, ⟨1, _⟩ => ⟨S100, .i32⟩
  | .hbm, ⟨2, _⟩ => ⟨S3x100x8192, .f32⟩
  | .hbm, ⟨3, _⟩ => ⟨S100x100x8192, .f32⟩
  | .hbm, ⟨4, _⟩ => ⟨S8192x100x100, .f32⟩
  | .hbm, ⟨5, _⟩ => ⟨S8192x100x100, .f32⟩
  | .local _ .vmem, ⟨0, _⟩ => ⟨S1x100x512, .f32⟩
  | .local _ .vmem, ⟨1, _⟩ => ⟨S1x100x512, .f32⟩
  | .local _ .vmem, ⟨2, _⟩ => ⟨S100x100x512, .f32⟩
  | .local _ .vmem, ⟨3, _⟩ => ⟨S100x100x512, .f32⟩
  | _, _ => ⟨S8192x100x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x100x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S100x100x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8192x100x3 : Shape := ⟨3, ![8192, 100, 3]⟩
abbrev S100 : Shape := ⟨1, ![100]⟩
abbrev S8192x100x1 : Shape := ⟨3, ![8192, 100, 1]⟩
abbrev S8192x100 : Shape := ⟨2, ![8192, 100]⟩
abbrev S1x100 : Shape := ⟨2, ![1, 100]⟩
abbrev S1x1x100 : Shape := ⟨3, ![1, 1, 100]⟩
abbrev S8192x100x100 : Shape := ⟨3, ![8192, 100, 100]⟩

abbrev nBuf : Space → Nat
  | .hbm => 17
  | .vmem => 0
  | .smem => 0
  | _ => 0

abbrev bufTy : (tb : Table) → Fin (tcTables nBuf tb) → BufTy
  | .hbm, ⟨0, _⟩ => ⟨S8192x100x3, .f32⟩
  | .hbm, ⟨1, _⟩ => ⟨S100, .i32⟩
  | .hbm, ⟨2, _⟩ => ⟨S8192x100x1, .f32⟩
  | .hbm, ⟨3, _⟩ => ⟨S8192x100, .f32⟩
  | .hbm, ⟨4, _⟩ => ⟨S8192x100x1, .f32⟩
  | .hbm, ⟨5, _⟩ => ⟨S8192x100, .f32⟩
  | .hbm, ⟨6, _⟩ => ⟨S8192x100, .f32⟩
  | .hbm, ⟨7, _⟩ => ⟨S8192x100, .i32⟩
  | .hbm, ⟨8, _⟩ => ⟨S1x100, .i32⟩
  | .hbm, ⟨9, _⟩ => ⟨S8192x100, .i32⟩
  | .hbm, ⟨10, _⟩ => ⟨S8192x100, .i32⟩
  | .hbm, ⟨11, _⟩ => ⟨S8192x100x1, .i32⟩
  | .hbm, ⟨12, _⟩ => ⟨S1x1x100, .i32⟩
  | .hbm, ⟨13, _⟩ => ⟨S8192x100x100, .i32⟩
  | .hbm, ⟨14, _⟩ => ⟨S8192x100x100, .i32⟩
  | .hbm, ⟨15, _⟩ => ⟨S8192x100x100, .i1⟩
  | .hbm, ⟨16, _⟩ => ⟨S8192x100x100, .f32⟩
  | _, _ => ⟨S8192x100x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Proof.OneHot.Cell.lean ====
/- One element of the one-hot array, as plain mathematics over the extended reals, and the two ways in which a
   comparison's bit is turned into a float. -/
module

public import Idealize.ShloMosaic.PureOps
public import Idealize.ShloMosaic.PureOps.Ideal

@[expose] public section

noncomputable section

namespace Cert.OneHot

open Idealize.ShloMosaic

/-- Element `k` of the one-hot row of an atom of type `a` whose coordinate is `x`: one where the index
    `a · (x / x)`, the quotient rounded toward zero to a word, is the word `k`, zero elsewhere. -/
def cell (x : EReal) (a : BitVec 32) (k : Nat) : EReal :=
  if a * Ideal.fptosi 32 (Ideal.div x x) = BitVec.ofNat 32 k then 1 else 0

/-- The bit of `u = v`, widened to a 32-bit word and read as a signed integer, is one or zero. -/
theorem signed_bit (u v : BitVec 32) :
    ((((IntOp.cmpi .eq u v).setWidth 32).toInt : ℝ) : EReal) = if u = v then 1 else 0 := by
  have hb : (u == v) = decide (u = v) := rfl
  by_cases h : u = v <;> simp [IntOp.cmpi, hb, h]

/-- The bit of `u = v`, read as an unsigned integer, is one or zero. -/
theorem unsigned_bit (u v : BitVec 32) :
    (((IntOp.cmpi .eq u v).toNat : ℝ) : EReal) = if u = v then 1 else 0 := by
  have hb : (u == v) = decide (u = v) := rfl
  by_cases h : u = v <;> simp [IntOp.cmpi, hb, h]

end Cert.OneHot

end
-- ==== Proof.OneHot.Block.lean ====
/- What one grid point of the kernel computes: the block of 512 batch entries that it writes, at an index. -/
module

public import proofs.«01_k».proof.Proof.OneHot.Cell
public import proofs.«01_k».proof.Proof.Gen.KernelIdeal.Skeleton
public import Idealize.ShloMosaic.Lib.Pipeline.Value

@[expose] public section

noncomputable section

namespace Cert.OneHot.Block

open Idealize.ShloMosaic Cert.KernelIdeal Cert.KernelIdeal.Gen

/-- The index `(0, n, l)` of the input block that element `(n, k, l)` of the output block depends on. -/
def src (j : S100x100x512.Idx) : S1x100x512.Idx := fun
  | ⟨0, _⟩ => ⟨0, Nat.one_pos⟩
  | ⟨1, _⟩ => j 0
  | ⟨2, _⟩ => j 2

/-- The index `(n, l)` of the plane of quotients that the same element depends on. -/
def mid (j : S100x100x512.Idx) : S100x512.Idx := fun
  | ⟨0, _⟩ => j 0
  | ⟨1, _⟩ => j 2

/-- The index `(n, 0, l)` of that plane before it is broadcast along the classes. -/
def mid1 (j : S100x100x512.Idx) : S100x1x512.Idx := fun
  | ⟨0, _⟩ => j 0
  | ⟨1, _⟩ => ⟨0, Nat.one_pos⟩
  | ⟨2, _⟩ => j 2

/-- A plane `(n, l)` given a unit class axis and broadcast along it reads the plane at `(n, l)`. -/
theorem spread_apply {α : Type} (v : S100x512.Idx → α) (h : S100x512.ShapeCasts S100x1x512)
    (h' : S100x1x512.Broadcasts S100x100x512) (j : S100x100x512.Idx) :
    broadcastTo S100x100x512 (shapeCast S100x1x512 v h) h' j = v (mid j) := by
  refine (broadcastTo_apply _ h' j (mid1 j) fun a => ?_).trans (shapeCast_apply v h (mid1 j) (mid j) ?_)
  · match a with
    | ⟨0, _⟩ => rfl
    | ⟨1, _⟩ => rfl
    | ⟨2, _⟩ => rfl
  · rw [Shape.rowMajor_val_two, Shape.rowMajor_val_three]
    simp [mid, mid1]

/-- The one plane of an input block, read at `(n, l)`, is the block at `(0, n, l)`. -/
theorem plane_apply {α : Type} (v : S1x100x512.Idx → α) (h : S1x100x512.ShapeCasts S100x512) (j : S100x100x512.Idx) :
    shapeCast S100x512 v h (mid j) = v (src j) := by
  refine shapeCast_apply v h (mid j) (src j) ?_
  rw [Shape.rowMajor_val_two, Shape.rowMajor_val_three]
  simp [mid, src]

/-- Element `(n, k, l)` of the block that the body stores is the one-hot element `k` of atom `n`, whose type the kernel
    takes to be `n`, at the coordinate `(0, n, l)` of the input block. -/
theorem pay_apply (v : Vec Ideal S1x100x512 .f32) (j : S100x100x512.Idx) :
    k0_pay1 (F := Ideal) v j = cell (v (src j)) (BitVec.ofNat 32 (j 0).val) (j 1).val := by
  have hb := spread_apply (muli (iota .tc S100x512 32 [0] Facts₀.iota_S100x512_d0_w32)
    (fptosi 32 (divf (F := Ideal) (φ := .f32) (shapeCast S100x512 v Facts₀.shapeCasts_S1x100x512_S100x512)
      (shapeCast S100x512 v Facts₀.shapeCasts_S1x100x512_S100x512))))
    Facts₀.shapeCasts_S100x512_S100x1x512 Facts₀.broadcasts_S100x1x512_S100x100x512 j
  have hk := iota_single_apply .tc S100x100x512 32 1 Facts₀.iota_S100x100x512_d1_w32 j
  have hn := iota_single_apply .tc S100x512 32 0 Facts₀.iota_S100x512_d0_w32 (mid j)
  have hx := plane_apply v Facts₀.shapeCasts_S1x100x512_S100x512 j
  unfold k0_pay1 cell
  refine Eq.trans ?_ (signed_bit _ _)
  show ((((IntOp.cmpi .eq (broadcastTo S100x100x512 _ _ j) (iota .tc S100x100x512 32 [1] _ j)).setWidth 32).toInt : ℝ) : EReal) = _
  rw [hb, hk]
  show ((((IntOp.cmpi .eq (iota .tc S100x512 32 [0] _ (mid j)
    * Ideal.fptosi 32 (Ideal.div (shapeCast S100x512 v _ (mid j)) (shapeCast S100x512 v _ (mid j)))) _).setWidth 32).toInt : ℝ) : EReal) = _
  rw [hn, hx]
  rfl

end Cert.OneHot.Block

end
-- ==== Proof.OneHot.Array.lean ====
/- What the kernel's run leaves: the array that the sixteen grid points write, and the result after the host's transpose. -/
module

public import proofs.«01_k».proof.Proof.OneHot.Block
public import proofs.«01_k».proof.Proof.Gen.KernelIdeal.Frame
public import Idealize.ShloMosaic.Lib.Pipeline.ValueKit
public import Idealize.ShloMosaic.Lib.StableHlo.Run
public import Idealize.ShloMosaic.Lib.Claim

@[expose] public section

noncomputable section

namespace Cert.OneHot.Array

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The index `(b, n, 0)` of the coordinates that element `(n, k, b)` of the kernel's array depends on. -/
def src (i : S100x100x8192.Idx) : S8192x100x3.Idx := fun
  | ⟨0, _⟩ => i 2
  | ⟨1, _⟩ => i 0
  | ⟨2, _⟩ => ⟨0, Nat.zero_lt_succ 2⟩

/-- The array that the kernel writes, atoms first and the batch last, as a function of the coordinates. -/
def written (X : S8192x100x3.Idx → EReal) : S100x100x8192.Idx → EReal :=
  fun i => cell (X (src i)) (BitVec.ofNat 32 (i 0).val) (i 1).val

/-- The coordinates transposed, read at an index whose coordinates are `(0, n, b)`, are the coordinates at `(b, n, 0)`. -/
theorem turned_apply {α : Type} (X : S8192x100x3.Idx → α) (h : S8192x100x3.Transposes [2, 1, 0] S3x100x8192)
    (y : S3x100x8192.Idx) (i : S100x100x8192.Idx) (h0 : (y 0).val = 0) (h1 : (y 1).val = (i 0).val) (h2 : (y 2).val = (i 2).val) :
    transpose S3x100x8192 [2, 1, 0] X h y = X (src i) :=
  transpose_apply [2, 1, 0] X h y (src i) fun a => match a with
    | ⟨0, _⟩ => h0.symm
    | ⟨1, _⟩ => h1.symm
    | ⟨2, _⟩ => h2.symm

/-- The region finds its operand at the coordinates transposed. -/
theorem entry (c : Dev nD) :
    V m c main_v0 = transpose S3x100x8192 [2, 1, 0] (m ((c : Thread nD τ).loc main_arg0)) Facts₀.transposes_S8192x100x3_S3x100x8192_2_1_0 := by
  show StableHlo.after hostOps0 (fun b => m (c, b)) (Proc.devRef .tc main_v0) = _
  unfold hostOps0
  after_results <;> rfl

/-- The block index of the operand's window at grid point `t` is `(0, 0, t)`. -/
theorem index_in : ∀ t : Fin cfg0.N, win0_0.index t = ![0, 0, t.val] :=
  (by decide +kernel : ∀ t : Fin grid0.N, win0_0.index t = ![0, 0, t.val])

/-- The block index of the result's window at grid point `t` is `(0, 0, t)`. -/
theorem index_out : ∀ t : Fin cfg0.N, win0_1.index t = ![0, 0, t.val] :=
  (by decide +kernel : ∀ t : Fin grid0.N, win0_1.index t = ![0, 0, t.val])

/-- After the sixteen grid points the kernel's array is `written` of the coordinates. -/
theorem final (c : Dev nD) : (dats m 0 c).arrAt 1 cfg0.N = written (m ((c : Thread nD τ).loc main_arg0)) := by
  refine (dats m 0 c).arrAt_eq_of_covers 1 _ (by decide +kernel) fun t _ y => ?_
  blk_simp
  rw [after0_1]
  frame_out
  rw [Block.pay_apply]
  have h0 : (((win0_1.blk t).view.emb y) 0).val = (y 0).val := by blk_simp [index_out]
  have h1 : (((win0_1.blk t).view.emb y) 1).val = (y 1).val := by blk_simp [index_out]
  have h2 : (((win0_1.blk t).view.emb y) 2).val = t.val * 512 + (y 2).val := by blk_simp [index_out]
  have g0 : (((win0_0.blk t).view.emb (Block.src y)) 0).val = 0 := by blk_simp [index_in]
  have g1 : (((win0_0.blk t).view.emb (Block.src y)) 1).val = (y 0).val := by
    blk_simp [index_in]
    rfl
  have g2 : (((win0_0.blk t).view.emb (Block.src y)) 2).val = t.val * 512 + (y 2).val := by
    blk_simp [index_in]
    rfl
  have hx : iblk m c 0 t (Block.src y)
      = m ((c : Thread nD τ).loc main_arg0) (src ((win0_1.blk t).view.emb y)) := by
    show V m c main_v0 ((win0_0.blk t).view.emb (Block.src y)) = _
    rw [entry]
    exact turned_apply _ _ _ _ g0 (g1.trans h0.symm) (g2.trans h2.symm)
  rw [hx]
  show cell _ (BitVec.ofNat 32 (y 0).val) (y 1).val
    = cell _ (BitVec.ofNat 32 (((win0_1.blk t).view.emb y) 0).val) (((win0_1.blk t).view.emb y) 1).val
  rw [h0, h1]

/-- The kernel's result: the written array with the batch moved to the front. -/
def result (X : S8192x100x3.Idx → EReal) : S8192x100x100.Idx → EReal :=
  transpose S8192x100x100 [2, 0, 1] (written X) Facts₀.transposes_S100x100x8192_S8192x100x100_2_0_1

/-- What the host lines after the region leave in the result: the kernel's array transposed. -/
theorem tail (c : Dev nD) :
    Pipeline.afterTail₀ cfgs (dats m) 0 (V0 m) [hostOps1] c main_v3 = result (m ((c : Thread nD τ).loc main_arg0)) := by
  have hv : Pipeline.withArrays (cfgs 0).spec c (V0 m c) (fun w => (dats m 0 c).arrAt w (cfgs 0).N) (Proc.devRef .tc main_v1)
      = written (m ((c : Thread nD τ).loc main_arg0)) :=
    (Pipeline.withArrays_arr (cfgs 0).spec launch0.win.arr_inj c (V0 m c) _ 1).trans (final m c)
  unfold Pipeline.afterTail₀ result
  rw [← hv]
  show StableHlo.after hostOps1 _ (Proc.devRef .tc main_v3) = _
  unfold hostOps1
  after_results <;> rfl

/-- Every execution of the kernel ends with the result at `result` of the coordinates and the arguments unchanged. -/
theorem run : θ_run defs (onTc (τ := τ) (main (F := Ideal))) ⟨m, fun _ => 0, ρ⟩ fun r => ∀ c : Dev nD,
      r.2.mem ((c : Thread nD τ).loc main_v3) = result (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.OneHot.Array

end
-- ==== Proof.OneHot.Reference.lean ====
/- What the reference computes, at an index: the one-hot element of its atom's type and coordinate. -/
module

public import proofs.«01_k».proof.Proof.OneHot.Cell
public import proofs.«01_k».proof.Proof.Gen.ReferenceIdeal.Run
public import Idealize.ShloMosaic.Lib.Pipeline.Value

@[expose] public section

noncomputable section

namespace Cert.OneHot.Reference

open Idealize.ShloMosaic Idealize.ShloMosaic.TcCoe Idealize.SL.Sem Cert.ReferenceIdeal Cert.ReferenceIdeal.Gen

/-- The index `(b, n, 0)` of the coordinates that element `(b, n, k)` depends on. -/
def src (i : S8192x100x100.Idx) : S8192x100x3.Idx := fun
  | ⟨0, _⟩ => i 0
  | ⟨1, _⟩ => i 1
  | ⟨2, _⟩ => ⟨0, Nat.zero_lt_succ 2⟩

/-- The same index of the slice that keeps the first coordinate only. -/
def src1 (i : S8192x100x100.Idx) : S8192x100x1.Idx := fun
  | ⟨0, _⟩ => i 0
  | ⟨1, _⟩ => i 1
  | ⟨2, _⟩ => ⟨0, Nat.one_pos⟩

/-- The index `(b, n)` of the table of indices. -/
def pair (i : S8192x100x100.Idx) : S8192x100.Idx := fun
  | ⟨0, _⟩ => i 0
  | ⟨1, _⟩ => i 1

/-- The index `(0, n)` of the row of types. -/
def row (i : S8192x100x100.Idx) : S1x100.Idx := fun
  | ⟨0, _⟩ => ⟨0, Nat.one_pos⟩
  | ⟨1, _⟩ => i 1

/-- The index `n` of the types. -/
def atom (i : S8192x100x100.Idx) : S100.Idx := fun
  | ⟨0, _⟩ => i 1

/-- The index `(0, 0, k)` of the classes. -/
def cls (i : S8192x100x100.Idx) : S1x1x100.Idx := fun
  | ⟨0, _⟩ => ⟨0, Nat.one_pos⟩
  | ⟨1, _⟩ => ⟨0, Nat.one_pos⟩
  | ⟨2, _⟩ => i 2

/-- The one-hot array of the coordinates `X` and the types `A`, batch first. -/
def oneHot (X : S8192x100x3.Idx → EReal) (A : S100.Idx → BitVec 32) : S8192x100x100.Idx → EReal :=
  fun i => cell (X (src i)) (A (atom i)) (i 2).val

/-- The first coordinates as a table, read at `(b, n)`, are the coordinates at `(b, n, 0)`. -/
theorem first_apply {α : Type} (X : S8192x100x3.Idx → α) (h : S8192x100x3.Slices ![0, 0, 0] S8192x100x1)
    (h' : S8192x100x1.ShapeCasts S8192x100) (i : S8192x100x100.Idx) :
    shapeCast S8192x100 (extractStridedSlice S8192x100x1 ![0, 0, 0] X h) h' (pair i) = X (src i) := by
  refine (shapeCast_apply _ h' (pair i) (src1 i) ?_).trans (extractStridedSlice_apply _ X h (src1 i) (src i) fun a => ?_)
  · rw [Shape.rowMajor_val_two, Shape.rowMajor_val_three]
    simp [pair, src1]
  · match a with
    | ⟨0, _⟩ => exact (Nat.zero_add _).symm
    | ⟨1, _⟩ => exact (Nat.zero_add _).symm
    | ⟨2, _⟩ => rfl

/-- The table of indices spread along the classes reads the table at `(b, n)`. -/
theorem spread_apply {α : Type} (v : S8192x100.Idx → α) (h : S8192x100.BroadcastsInDim S8192x100x1 ![0, 1])
    (h' : S8192x100x1.BroadcastsInDim S8192x100x100 ![0, 1, 2]) (i : S8192x100x100.Idx) :
    broadcastInDim S8192x100x100 ![0, 1, 2] h' (broadcastInDim S8192x100x1 ![0, 1] h v) i = v (pair i) := by
  refine (broadcastInDim_apply _ h' _ i (src1 i) fun a => ?_).trans (broadcastInDim_apply _ h v (src1 i) (pair i) fun a => ?_)
  · match a with
    | ⟨0, _⟩ => rfl
    | ⟨1, _⟩ => rfl
    | ⟨2, _⟩ => rfl
  · match a with
    | ⟨0, _⟩ => rfl
    | ⟨1, _⟩ => rfl

/-- The types spread over the batch read the type of atom `n`. -/
theorem types_apply {α : Type} (A : S100.Idx → α) (h : S100.BroadcastsInDim S1x100 ![1])
    (h' : S1x100.BroadcastsInDim S8192x100 ![0, 1]) (i : S8192x100x100.Idx) :
    broadcastInDim S8192x100 ![0, 1] h' (broadcastInDim S1x100 ![1] h A) (pair i) = A (atom i) := by
  refine (broadcastInDim_apply _ h' _ (pair i) (row i) fun a => ?_).trans (broadcastInDim_apply _ h A (row i) (atom i) fun a => ?_)
  · match a with
    | ⟨0, _⟩ => rfl
    | ⟨1, _⟩ => rfl
  · match a with
    | ⟨0, _⟩ => rfl

/-- The classes spread over batch and atoms read the word of class `k`. -/
theorem classes_apply (h : S1x1x100.BroadcastsInDim S8192x100x100 ![0, 1, 2]) (i : S8192x100x100.Idx) :
    broadcastInDim S8192x100x100 ![0, 1, 2] h (iotaInDim S1x1x100 32 2) i = BitVec.ofNat 32 (i 2).val :=
  broadcastInDim_apply _ h _ i (cls i) fun a => match a with
    | ⟨0, _⟩ => rfl
    | ⟨1, _⟩ => rfl
    | ⟨2, _⟩ => rfl

/-- The comparison of two arrays of words as numbers: one where they agree, zero elsewhere. -/
theorem bit_apply {s : Shape} (u v : IVec s 32) (i : s.Idx) :
    (uitofp .f32 (cmpi .eq u v) : FVec Ideal s .f32) i = (if u i = v i then 1 else 0 : EReal) :=
  unsigned_bit (u i) (v i)

/-- The index of an atom: its type times the quotient of its coordinate by itself, rounded toward zero. -/
theorem index_apply {s : Shape} (a : IVec s 32) (x : FVec Ideal s .f32) (p : s.Idx) :
    muli a (fptosi 32 (Host.divf x x)) p = a p * Ideal.fptosi 32 (Ideal.div (x p) (x p)) := rfl

/-- The reference's operations, composed, are the one-hot array. -/
theorem value_eq (X : FVec Ideal S8192x100x3 .f32) (A : IVec S100 32) :
    (uitofp .f32 (cmpi .eq
      (broadcastInDim S8192x100x100 ![0, 1, 2] bcast_S8192x100x1_S8192x100x100_0_1_2
        (broadcastInDim S8192x100x1 ![0, 1] bcast_S8192x100_S8192x100x1_0_1
          (muli
            (broadcastInDim S8192x100 ![0, 1] bcast_S1x100_S8192x100_0_1 (broadcastInDim S1x100 ![1] bcast_S100_S1x100_1 A))
            (fptosi 32 (Host.divf
              (shapeCast S8192x100 (extractStridedSlice S8192x100x1 ![0, 0, 0] X slices_S8192x100x3_S8192x100x1_0_0_0) shapeCasts_S8192x100x1_S8192x100)
              (shapeCast S8192x100 (extractStridedSlice S8192x100x1 ![0, 0, 0] X slices_S8192x100x3_S8192x100x1_0_0_0) shapeCasts_S8192x100x1_S8192x100))))))
      (broadcastInDim S8192x100x100 ![0, 1, 2] bcast_S1x1x100_S8192x100x100_0_1_2 (iotaInDim S1x1x100 32 2)))
      : FVec Ideal S8192x100x100 .f32) = oneHot X A := by
  funext i
  rw [bit_apply, spread_apply, classes_apply, index_apply, types_apply, first_apply]
  rfl

/-- Every execution of the reference ends with the result at the one-hot array of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v9) = oneHot (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  exact (θ_run defs _ _).mono (fun r h c => ⟨(h c).1.trans (value_eq _ _), (h c).2⟩) (Value.run (F := Ideal) m ρ)

end Cert.OneHot.Reference

end
-- ==== Proof.OneHot.Claims.lean ====
/- The value claim: under the precondition that atom `n` has type `n`, kernel and reference compute the same one-hot array. -/
module

public import proofs.«01_k».proof.Defs
public import proofs.«01_k».proof.Proof.OneHot.Array
public import proofs.«01_k».proof.Proof.OneHot.Reference
public import proofs.«01_k».proof.Proof.Gen.Pre_atoms_are_iota
public import Idealize.ShloMosaic.Lib.ReduceAll

@[expose] public section

noncomputable section

namespace Cert.OneHot.Claims

open Idealize.ShloMosaic Idealize.ShloMosaic.TcCoe Idealize.SL.Sem

/-- The precondition, read back: the type of atom `n` is the word `n`. -/
theorem types_are_iota (X : FVec Ideal Cert.Pre_atoms_are_iota.S8192x100x3 .f32) (A : IVec Cert.Pre_atoms_are_iota.S100 32)
    (h : Cert.Pre_atoms_are_iota.fn (F := Ideal) X A = fun _ => 1#1) (j : Cert.Pre_atoms_are_iota.S100.Idx) :
    A j = BitVec.ofNat 32 (j 0).val := by
  have : Subsingleton Cert.Pre_atoms_are_iota.S_.Idx := ⟨fun a b => funext fun d => d.elim0⟩
  have e : IntOp.cmpi .eq (A j) (BitVec.ofNat 32 (j 0).val) = 1#1 :=
    Host.reduce_andi_all _ _ _ _ (fun d => d.elim0) (congrFun h fun d => d.elim0) j
  by_contra hne
  have hb : (A j == BitVec.ofNat 32 (j 0).val) = decide (A j = BitVec.ofNat 32 (j 0).val) := rfl
  simp [IntOp.cmpi, hb, hne] at e

/-- The kernel's result, read at `(b, n, k)`, is the one-hot element `k` of type `n` at the coordinate `(b, n, 0)`. -/
theorem result_apply (X : Cert.KernelIdeal.S8192x100x3.Idx → EReal) (i : Cert.KernelIdeal.S8192x100x100.Idx) :
    Array.result X i = cell (X (Reference.src i)) (BitVec.ofNat 32 (i 1).val) (i 2).val := by
  let k : Cert.KernelIdeal.S100x100x8192.Idx := fun
    | ⟨0, _⟩ => i 1
    | ⟨1, _⟩ => i 2
    | ⟨2, _⟩ => i 0
  refine (transpose_apply _ _ _ i k fun a => ?_).trans ?_
  · match a with
    | ⟨0, _⟩ => rfl
    | ⟨1, _⟩ => rfl
    | ⟨2, _⟩ => rfl
  · show cell (X (Array.src k)) _ _ = cell (X (Reference.src i)) _ _
    congr 2

/-- Where atom `n` has type `n`, the kernel's result is the reference's one-hot array. -/
theorem result_eq (X : Cert.KernelIdeal.S8192x100x3.Idx → EReal) (A : Cert.KernelIdeal.S100.Idx → BitVec 32)
    (hA : ∀ j, A j = BitVec.ofNat 32 (j 0).val) : Array.result X = Reference.oneHot X A := by
  funext i
  rw [result_apply]
  unfold Reference.oneHot
  rw [hA]
  rfl

/-- `algebraic`: from arguments that agree and satisfy the precondition, kernel and reference end with equal results. -/
theorem algebraic : Cert.algebraic_KernelIdeal_ReferenceIdeal_pre_atoms_are_iota := by
  intro m g m' g' hpre hagree
  refine ⟨fun c => Array.result (m ((c.tc : Thread Cert.KernelIdeal.nD Cert.KernelIdeal.τ).loc Cert.KernelIdeal.main_arg0)), Array.run m g, ?_⟩
  refine (θ_run Cert.ReferenceIdeal.defs _ _).mono (fun r h c => ⟨(h c).1.trans ?_, (h c).2⟩) (Reference.run m' g')
  rw [(hagree c).1, (hagree c).2]
  exact (result_eq _ _ (types_are_iota _ _ (hpre c))).symm

/-- The reference's frame: its run, read at the arguments; it declares no semaphore. -/
theorem frame_reference : Cert.quiescent_ReferenceIdeal := fun m g _ =>
  (θ_run Cert.ReferenceIdeal.defs _ _).mono
    (fun r h => ⟨fun c => (h c).2, sem_eq_zero_of_no_sems (by decide) r.2⟩) (Reference.run m g)

end Cert.OneHot.Claims

end
-- ==== Proof.lean ====
/- The five claims about the one-hot kernel and its reference, assembled: the frames (with and without the
   precondition), the idealization, and the equality of the two results over the extended reals. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.OneHot.Claims

@[expose] public section

noncomputable section

namespace Cert.Proof

open Idealize.ShloMosaic Idealize.SL.Sem

/-- Everything that the certificate claims. -/
theorem claim : Cert.Claim :=
  ⟨Cert.Kernel.Gen.facts, Cert.KernelIdeal.Gen.facts, Cert.ReferenceIdeal.Gen.facts, Cert.Pre_atoms_are_iota.Gen.facts,
    fun m g _ => Cert.Kernel.Gen.frame m g,
    fun m g _ => Cert.KernelIdeal.Gen.frame m g,
    fun m g _ => Cert.KernelIdeal.Gen.frame m g,
    Cert.OneHot.Claims.frame_reference,
    fun m g _ => Cert.OneHot.Claims.frame_reference m g trivial,
    trivial,
    Cert.OneHot.Claims.algebraic⟩

end Cert.Proof

end
